-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diagonal_products_finite [hPre_diagonal_products_finite : Cert.Pre_diagonal_products_finite.Facts] (m : (ℓ : Loc Cert.KernelIdeal.nD Cert.KernelIdeal.τ Cert.KernelIdeal.sig) → Buf (Elt Ideal) ℓ) : Prop :=
  ∀ c : Dev Cert.KernelIdeal.nD,
    (Cert.Pre_diagonal_products_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diagonal_products_finite [hPre_diagonal_products_finite : Cert.Pre_diagonal_products_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diagonal_products_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_diagonal_products_finite [hKernelIdeal : Cert.KernelIdeal.Facts] [hPre_diagonal_products_finite : Cert.Pre_diagonal_products_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diagonal_products_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_diagonal_products_finite [hReferenceIdeal : Cert.ReferenceIdeal.Facts] [hPre_diagonal_products_finite : Cert.Pre_diagonal_products_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diagonal_products_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_diagonal_products_finite [hKernelIdeal : Cert.KernelIdeal.Facts] [hReferenceIdeal : Cert.ReferenceIdeal.Facts] [hPre_diagonal_products_finite : Cert.Pre_diagonal_products_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diagonal_products_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_diagonal_products_finite : Cert.Pre_diagonal_products_finite.Facts),
    quiescent_Kernel (hKernel := hKernel)
    ∧ quiescent_KernelIdeal (hKernelIdeal := hKernelIdeal)
    ∧ quiescent_KernelIdeal_pre_diagonal_products_finite (hKernelIdeal := hKernelIdeal) (hPre_diagonal_products_finite := hPre_diagonal_products_finite)
    ∧ quiescent_ReferenceIdeal (hReferenceIdeal := hReferenceIdeal)
    ∧ quiescent_ReferenceIdeal_pre_diagonal_products_finite (hReferenceIdeal := hReferenceIdeal) (hPre_diagonal_products_finite := hPre_diagonal_products_finite)
    ∧ preserves_Kernel_KernelIdeal
    ∧ algebraic_KernelIdeal_ReferenceIdeal_pre_diagonal_products_finite (hKernelIdeal := hKernelIdeal) (hReferenceIdeal := hReferenceIdeal) (hPre_diagonal_products_finite := hPre_diagonal_products_finite)
-- ==== Pre_diagonal_products_finite.lean ====
abbrev S32x8192 : Shape := ⟨2, ![32, 8192]⟩
abbrev S8192x8192 : Shape := ⟨2, ![8192, 8192]⟩
abbrev S8192 : Shape := ⟨1, ![8192]⟩
abbrev S8192x1 : Shape := ⟨2, ![8192, 1]⟩
abbrev S_ : Shape := ⟨0, ![]⟩

class Facts : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)

variable [Facts]

def fn {F : FTy → Type} [FloatOps F] (main_arg0 : FVec F S32x8192 .f32) (main_arg1 : FVec F S32x8192 .f32) (main_arg2 : FVec F S32x8192 .f32) (main_arg3 : FVec F S8192x8192 .f32) (main_arg4 : FVec F S8192 .f32) (main_arg5 : FVec F S8192 .f32) : IVec S8192x8192 1 :=
  let main_v0 : IVec S8192x8192 32 := iotaInDim S8192x8192 32 0
  let main_v1 : IVec S8192x8192 32 := iotaInDim S8192x8192 32 1
  let main_v2 : IVec S8192x8192 1 := cmpi .ne main_v0 main_v1
  let main_v3 : FVec F S8192x1 .f32 := broadcastInDim S8192x1 ![0] bcast_S8192_S8192x1_0 main_arg4
  let main_v4 : FVec F S8192x8192 .f32 := broadcastInDim S8192x8192 ![0, 1] bcast_S8192x1_S8192x8192_0_1 main_v3
  let main_v5 : FVec F S8192x8192 .f32 := mulf main_v4 main_arg3
  let main_v6 : FVec F S8192x8192 .f32 := Host.absf main_v5
  let main_cst : FVec F S_ .f32 := constant S_ .f32 0x7F800000#32
  let main_v7 : FVec F S8192x8192 .f32 := broadcastInDim S8192x8192 ![] bcast_S_S8192x8192 main_cst
  let main_v8 : IVec S8192x8192 1 := cmpf .olt main_v6 main_v7
  let main_v9 : IVec S8192x8192 1 := ori main_v2 main_v8
  main_v9
-- ==== Kernel.lean ====
abbrev S32x8192 : Shape := ⟨2, ![32, 8192]⟩
abbrev S8192x8192 : Shape := ⟨2, ![8192, 8192]⟩
abbrev S8192 : Shape := ⟨1, ![8192]⟩
abbrev S1x8192 : Shape := ⟨2, ![1, 8192]⟩
abbrev S32x512 : Shape := ⟨2, ![32, 512]⟩
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 16
  | .vmem => 23
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S32x8192, .f32⟩
  | .hbm, ⟨3, _⟩ => ⟨S8192x8192, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S1x8192, .f32⟩
  | .hbm, ⟨8, _⟩ => ⟨S32x8192, .f32⟩
  | .hbm, ⟨9, _⟩ => ⟨S32x8192, .f32⟩
  | .hbm, ⟨10, _⟩ => ⟨S32x8192, .f32⟩
  | .hbm, ⟨11, _⟩ => ⟨S32x8192, .f32⟩
  | .hbm, ⟨12, _⟩ => ⟨S1x8192, .f32⟩
  | .hbm, ⟨13, _⟩ => ⟨S1x8192, .f32⟩
  | .hbm, ⟨14, _⟩ => ⟨S8192, .f32⟩
  | .hbm, ⟨15, _⟩ => ⟨S8192, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S8192x512, .f32⟩
  | .local _ .vmem, ⟨7, _⟩ => ⟨S8192x512, .f32⟩
  | .local _ .vmem, ⟨8, _⟩ => ⟨S1x8192, .f32⟩
  | .local _ .vmem, ⟨9, _⟩ => ⟨S1x512, .f32⟩
  | .local _ .vmem, ⟨10, _⟩ => ⟨S1x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v6 : Index := Scalar.indexCast v1
  let c0_3 : Index := 0#32
  ![v6.toNat, 0]
def k0_off2 (i : grid0.Coords) : Fin 2 → Nat :=
  let c0_6 : Index := 0#32
  let arg0 : BitVec 32 := BitVec.ofNat 32 (i 0).val
  let c512_i32 : BitVec 32 := 512#32
  let v0 : BitVec 32 := Scalar.muli arg0 c512_i32
  let v1 : BitVec 32 := v0
  let v15 : Index := Scalar.indexCast v1
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x8192 : Shape := ⟨2, ![32, 8192]⟩
abbrev S8192x8192 : Shape := ⟨2, ![8192, 8192]⟩
abbrev S8192 : Shape := ⟨1, ![8192]⟩
abbrev S_ : Shape := ⟨0, ![]⟩
abbrev S1x8192 : Shape := ⟨2, ![1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S32x8192, .f32⟩
  | .hbm, ⟨3, _⟩ => ⟨S8192x8192, .f32⟩
  | .hbm, ⟨4, _⟩ => ⟨S8192, .f32⟩
  | .hbm, ⟨5, _⟩ => ⟨S8192, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192, .f32⟩
  | .hbm, ⟨18, _⟩ => ⟨S8192, .f32⟩
  | .hbm, ⟨19, _⟩ => ⟨S1x8192, .f32⟩
  | .hbm, ⟨20, _⟩ => ⟨S32x8192, .f32⟩
  | .hbm, ⟨21, _⟩ => ⟨S32x8192, .f32⟩
  | .hbm, ⟨22, _⟩ => ⟨S1x8192, .f32⟩
  | .hbm, ⟨23, _⟩ => ⟨S32x8192, .f32⟩
  | .hbm, ⟨24, _⟩ => ⟨S32x8192, .f32⟩
  | .hbm, ⟨25, _⟩ => ⟨S32x8192, .f32⟩
  | .hbm, ⟨26, _⟩ => ⟨S_, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S_, .f32⟩
  | .hbm, ⟨31, _⟩ => ⟨S32x8192, .f32⟩
  | .hbm, ⟨32, _⟩ => ⟨S32x8192, .f32⟩
  | .hbm, ⟨33, _⟩ => ⟨S32x8192, .f32⟩
  | .hbm, ⟨34, _⟩ => ⟨S32x8192, .i1⟩
  | .hbm, ⟨35, _⟩ => ⟨S32x8192, .f32⟩
  | .hbm, ⟨36, _⟩ => ⟨S_, .f32⟩
  | .hbm, ⟨37, _⟩ => ⟨S32x8192, .f32⟩
  | .hbm, ⟨38, _⟩ => ⟨S32x8192, .f32⟩
  | .hbm, ⟨39, _⟩ => ⟨S32x8192, .f32⟩
  | .hbm, ⟨40, _⟩ => ⟨S_, .f32⟩
  | .hbm, ⟨41, _⟩ => ⟨S32x8192, .f32⟩
  | .hbm, ⟨42, _⟩ => ⟨S32x8192, .f32⟩
  | .hbm, ⟨43, _⟩ => ⟨S32x8192, .f32⟩
  | .hbm, ⟨44, _⟩ => ⟨S_, .f32⟩
  | .hbm, ⟨45, _⟩ => ⟨S32x8192, .f32⟩
  | .hbm, ⟨46, _⟩ => ⟨S32x8192, .f32⟩
  | .hbm, ⟨47, _⟩ => ⟨S_, .f32⟩
  | .hbm, ⟨48, _⟩ => ⟨S32x8192, .f32⟩
  | .hbm, ⟨49, _⟩ => ⟨S32x8192, .f32⟩
  | .hbm, ⟨50, _⟩ => ⟨S32x8192, .f32⟩
  | .hbm, ⟨51, _⟩ => ⟨S_, .f32⟩
  | .hbm, ⟨52, _⟩ => ⟨S32x8192, .f32⟩
  | .hbm, ⟨53, _⟩ => ⟨S32x8192, .f32⟩
  | .hbm, ⟨54, _⟩ => ⟨S32x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.Columns.lean ====
/-
  The arithmetic of one block of columns, apart from any run.

  The kernel's grid point `q` computes columns `512 q … 512 q + 511` of the six results. Here its stored values are read
  at an index and shown equal to the reference's at the same column. The one step that is not a rewriting of the same
  expression is the inhibition: the reference zeroes the diagonal of the weights and sums; the kernel sums everything
  and takes the diagonal product away again. Over the extended reals the two agree when the product taken away is
  finite.
-/
module

public import proofs.«01_k».proof.Proof.Gen.KernelIdeal
public import proofs.«01_k».proof.Proof.Gen.KernelIdeal.Skeleton
public import proofs.«01_k».proof.Proof.Gen.ReferenceIdeal.Read
public import Idealize.ShloMosaic.Lib.Pointwise

@[expose] public section

set_option maxRecDepth 16384

noncomputable section

namespace Cert.Proof.Columns

open Idealize.ShloMosaic

open Cert.KernelIdeal (S32x512 S8192x512 S512x512 S1x512 S1x8192)
open Cert.ReferenceIdeal (S32x8192 S8192x8192 S8192)
open Cert.KernelIdeal.Gen
open Cert.ReferenceIdeal.Read

/-! ## Sums over the extended reals -/

/-- Taking away from zero is negation. -/
theorem zero_sub_eq (x : EReal) : 0 - x = -x := by rw [sub_eq_add_neg, zero_add]

/-- A finite number added and taken away again leaves what was there. -/
theorem add_sub_cancel_of_finite {a : EReal} (x : EReal) (ht : a ≠ ⊤) (hb : a ≠ ⊥) : (a + x) - a = x := by
  lift a to ℝ using ⟨ht, hb⟩
  induction x with
  | bot => rw [EReal.add_bot, EReal.bot_sub]
  | coe x => rw [← EReal.coe_add, ← EReal.coe_sub, add_sub_cancel_left]
  | top => rw [EReal.coe_add_top, EReal.top_sub_coe]

/-- A sum with one finite term taken away again is the sum of the other terms. -/
theorem sum_sub_term {n : ℕ} (f : Fin n → EReal) (j : Fin n) (ht : f j ≠ ⊤) (hb : f j ≠ ⊥) :
    (∑ k, f k) - f j = ∑ k, if k = j then 0 else f k := by
  have hsplit : (∑ k, f k) = f j + ∑ k, (if k = j then 0 else f k) := by
    have h1 : (∑ k, if k = j then f k else 0) = f j := by rw [Finset.sum_ite_eq' Finset.univ j f, if_pos (Finset.mem_univ j)]
    rw [← h1, ← Finset.sum_add_distrib]
    refine Finset.sum_congr rfl fun k _ => ?_
    by_cases h : k = j
    · subst h; simp
    · rw [if_neg h, if_neg h, zero_add]
  rw [hsplit, add_sub_cancel_of_finite _ ht hb]

/-- Two indices compared as 32-bit words compare as indices. -/
theorem cmpi_ofNat {n : ℕ} (hn : n ≤ 2 ^ 32) (k j : Fin n) :
    IntOp.cmpi CmpIPredicate.eq (BitVec.ofNat 32 k.val) (BitVec.ofNat 32 j.val) = BitVec.ofBool (decide (k = j)) := by
  have hk := k.isLt
  have hj := j.isLt
  have e : (BitVec.ofNat 32 k.val = BitVec.ofNat 32 j.val) ↔ k = j := by
    constructor
    · intro h
      have := congrArg BitVec.toNat h
      rw [BitVec.toNat_ofNat, BitVec.toNat_ofNat, Nat.mod_eq_of_lt (by omega), Nat.mod_eq_of_lt (by omega)] at this
      exact Fin.ext this
    · intro h; rw [h]
  by_cases h : k = j
  · subst h; simp [IntOp.cmpi]
  · have h' : (BitVec.ofNat 32 k.val == BitVec.ofNat 32 j.val) = false := beq_eq_false_iff_ne.mpr fun hh => h (e.mp hh)
    simp only [IntOp.cmpi, h, h', decide_false]

/-- The sum down column `j` of a square block with everything off the diagonal replaced by zero is the diagonal entry. -/
theorem sum_diag (v : Fin 512 → EReal) (j : Fin 512) :
    (∑ x : Fin 512, Scalar.select (IntOp.cmpi CmpIPredicate.eq (BitVec.ofNat 32 x.val) (BitVec.ofNat 32 j.val)) (v x) 0) = v j := by
  have h : ∀ x : Fin 512, Scalar.select (IntOp.cmpi CmpIPredicate.eq (BitVec.ofNat 32 x.val) (BitVec.ofNat 32 j.val)) (v x) 0
      = if x = j then v x else 0 := fun x => by
    rw [cmpi_ofNat (by norm_num)]
    by_cases h : x = j <;> simp [Scalar.select, h]
  rw [Finset.sum_congr rfl fun x _ => h x, Finset.sum_ite_eq' Finset.univ j v, if_pos (Finset.mem_univ j)]

/-- One minus the identity matrix's entry: zero on the diagonal, one off it. -/
theorem one_sub_eye (k j : Fin 8192) :
    ((1 : EReal) - FloatOps.uitofp (F := Ideal) FTy.f32
      (IntOp.cmpi CmpIPredicate.eq (IntOp.addi (BitVec.ofNat 32 k.val) 0#32) (BitVec.ofNat 32 j.val)))
      = if k = j then 0 else 1 := by
  rw [show IntOp.addi (BitVec.ofNat 32 k.val) 0#32 = BitVec.ofNat 32 k.val from BitVec.add_zero _, cmpi_ofNat (by norm_num)]
  show (1 : EReal) - (((BitVec.ofBool (decide (k = j))).toNat : ℝ) : EReal) = _
  by_cases h : k = j
  · simp [h, ← EReal.coe_one, ← EReal.coe_sub]
  · simp [h]

/-- The kernel's spike word widened to 32 bits and read signed, and the reference's read unsigned, are the same number. -/
theorem spike_eq (b : Bool) :
    FloatOps.sitofp (F := Ideal) FTy.f32 (BitVec.setWidth 32 (BitVec.ofBool b)) = FloatOps.uitofp (F := Ideal) FTy.f32 (BitVec.ofBool b) := by
  show ((((BitVec.setWidth 32 (BitVec.ofBool b)).toInt : ℝ)) : EReal) = (((BitVec.ofBool b).toNat : ℝ) : EReal)
  cases b <;> simp

/-! ## The columns of one grid point -/

/-- Column `j` of grid point `q`'s block, as a column of the whole arrays. -/
def col (q : ℕ) (hq : q < 16) (j : Fin 512) : Fin 8192 := ⟨512 * q + j.val, by have := j.isLt; omega⟩

section Point

variable (x0 x1 x2 : Vec Ideal S32x8192 .f32) (x3 : Vec Ideal S8192x8192 .f32) (x4 x5 : Vec Ideal S8192 .f32)
variable (q : ℕ) (hq : q < 16)

/-- The total input: the kernel's is the reference's where the diagonal products are finite. -/
theorem total_eq (hfin : ∀ j : Fin 8192, x4 (ix1 j) * x3 (ix2 j j) ≠ ⊤ ∧ x4 (ix1 j) * x3 (ix2 j j) ≠ ⊥)
    (v2 : Vec Ideal S1x8192 .f32) (v4 : Vec Ideal S8192x512 .f32) (v7 : Vec Ideal S512x512 .f32)
    (v16 v22 : Vec Ideal S1x512 .f32) (v24 : Vec Ideal S32x512 .f32)
    (h2 : ∀ k : Fin 8192, v2 (ix2 0 k) = x4 (ix1 k))
    (h4 : ∀ (k : Fin 8192) (j : Fin 512), v4 (ix2 k j) = x3 (ix2 k (col q hq j)))
    (h7 : ∀ i j : Fin 512, v7 (ix2 i j) = x3 (ix2 (col q hq i) (col q hq j)))
    (h16 : ∀ j : Fin 512, v16 (ix2 0 j) = x4 (ix1 (col q hq j)))
    (h22 : ∀ j : Fin 512, v22 (ix2 0 j) = x5 (ix1 (col q hq j)))
    (h24 : ∀ (b : Fin 32) (j : Fin 512), v24 (ix2 b j) = x0 (ix2 b (col q hq j)))
    (b : Fin 32) (j : Fin 512) :
    k0_pay2 v2 v4 v7 v16 v22 v24 (ix2 b j) = val_main_v16 (F := Ideal) x0 x3 x4 x5 (ix2 b (col q hq j)) := by
  have hk : k0_pay2 v2 v4 v7 v16 v22 v24 (ix2 b j)
      = x0 (ix2 b (col q hq j)) + (0 - ((∑ k : Fin 8192, x4 (ix1 k) * x3 (ix2 k (col q hq j)))
          - x4 (ix1 (col q hq j)) * x3 (ix2 (col q hq j) (col q hq j)))) + x5 (ix1 (col q hq j)) := by
    pointwise [k0_pay2, k0_pay1]
    rw [sum_diag (fun x => v7 (ix2 x j)) j]
    simp only [h2, h4, h7, h16, h22, h24]
  have hr : val_main_v16 (F := Ideal) x0 x3 x4 x5 (ix2 b (col q hq j))
      = x0 (ix2 b (col q hq j)) + -(∑ k : Fin 8192, if k = col q hq j then 0 else x4 (ix1 k) * x3 (ix2 k (col q hq j)))
        + x5 (ix1 (col q hq j)) := by
    generalize col q hq j = l
    pointwise [val_main_v16, val_main_v15, val_main_v14, val_main_v13, val_main_v12, val_main_v11, val_main_v10, val_main_v9,
      val_main_v8, val_main_v7, val_main_v6, val_main_v5, val_main_v4, val_main_v3, val_main_v2, val_main_v1, val_main_v0,
      val_main_c, val_main_cst]
    refine congrArg (fun s => x0 (ix2 b l) + -s + x5 (ix1 l)) (Finset.sum_congr rfl fun k _ => ?_)
    rw [one_sub_eye]
    by_cases h : k = l
    · rw [if_pos h, if_pos h, mul_zero, mul_zero]
    · rw [if_neg h, if_neg h, mul_one]
  rw [hk, hr, sum_sub_term (fun k => x4 (ix1 k) * x3 (ix2 k (col q hq j))) (col q hq j) (hfin _).1 (hfin _).2, zero_sub_eq]

/-- The membrane potential before the reset: the same leak on both sides, then the total input. -/
theorem vnew_eq (v2 : Vec Ideal S1x8192 .f32) (v4 : Vec Ideal S8192x512 .f32) (v7 : Vec Ideal S512x512 .f32)
    (v16 v22 : Vec Ideal S1x512 .f32) (v24 v29 : Vec Ideal S32x512 .f32)
    (h28 : ∀ (b : Fin 32) (j : Fin 512), k0_pay2 v2 v4 v7 v16 v22 v24 (ix2 b j)
      = val_main_v16 (F := Ideal) x0 x3 x4 x5 (ix2 b (col q hq j)))
    (h29 : ∀ (b : Fin 32) (j : Fin 512), v29 (ix2 b j) = x1 (ix2 b (col q hq j)))
    (b : Fin 32) (j : Fin 512) :
    k0_pay3 v2 v4 v7 v16 v22 v24 v29 (ix2 b j) = val_main_v23 (F := Ideal) x0 x1 x3 x4 x5 (ix2 b (col q hq j)) := by
  specialize h28 b j
  specialize h29 b j
  unfold k0_pay3 val_main_v23 val_main_v22 val_main_v20
  generalize val_main_v16 (F := Ideal) x0 x3 x4 x5 = T at *
  generalize k0_pay2 v2 v4 v7 v16 v22 v24 = T' at *
  generalize col q hq j = l at *
  pointwise [val_main_v21, val_main_v19, val_main_v18, val_main_v17, val_main_cst_0, val_main_cst_1]
  rw [h28, h29, zero_sub_eq]

section Spikes

variable (v37 v38 : Vec Ideal S32x512 .f32)
  (h37 : ∀ (b : Fin 32) (j : Fin 512), v37 (ix2 b j) = val_main_v23 (F := Ideal) x0 x1 x3 x4 x5 (ix2 b (col q hq j)))
  (h38 : ∀ (b : Fin 32) (j : Fin 512), v38 (ix2 b j) = x2 (ix2 b (col q hq j)))
include h37 h38

/-- The spikes. -/
theorem spikes_eq (b : Fin 32) (j : Fin 512) :
    k0_pay4 v37 v38 (ix2 b j) = val_main_v25 (F := Ideal) x0 x1 x2 x3 x4 x5 (ix2 b (col q hq j)) := by
  specialize h37 b j
  specialize h38 b j
  unfold val_main_v25 val_main_v24
  generalize val_main_v23 (F := Ideal) x0 x1 x3 x4 x5 = y at *
  generalize col q hq j = l at *
  pointwise [k0_pay4]
  rw [h37, h38, spike_eq]

/-- The membrane potential after the reset. -/
theorem vout_eq (b : Fin 32) (j : Fin 512) :
    k0_pay5 v37 v38 (ix2 b j) = val_main_v28 (F := Ideal) x0 x1 x2 x3 x4 x5 (ix2 b (col q hq j)) := by
  have hs := spikes_eq x0 x1 x2 x3 x4 x5 q hq v37 v38 h37 h38 b j
  specialize h37 b j
  unfold k0_pay5 val_main_v28 val_main_v27
  generalize val_main_v25 (F := Ideal) x0 x1 x2 x3 x4 x5 = s at *
  generalize val_main_v23 (F := Ideal) x0 x1 x3 x4 x5 = y at *
  generalize k0_pay4 v37 v38 = s' at *
  generalize col q hq j = l at *
  pointwise [val_main_v26, val_main_cst_2]
  rw [h37, hs]

/-- The adapted threshold. -/
theorem thout_eq (b : Fin 32) (j : Fin 512) :
    k0_pay6 v37 v38 (ix2 b j) = val_main_v39 (F := Ideal) x0 x1 x2 x3 x4 x5 (ix2 b (col q hq j)) := by
  have hs := spikes_eq x0 x1 x2 x3 x4 x5 q hq v37 v38 h37 h38 b j
  specialize h38 b j
  unfold k0_pay6 val_main_v39 val_main_v38
  generalize val_main_v25 (F := Ideal) x0 x1 x2 x3 x4 x5 = s at *
  generalize k0_pay4 v37 v38 = s' at *
  generalize col q hq j = l at *
  pointwise [val_main_v37, val_main_v36, val_main_v35, val_main_v34, val_main_v33, val_main_v32, val_main_v31, val_main_v30,
    val_main_v29, val_main_cst_3, val_main_cst_4, val_main_cst_5, val_main_cst_6]
  rw [h38, hs, zero_sub_eq]

/-- The mean activity over the batch. -/
theorem act_eq (j : Fin 512) :
    k0_pay7 v37 v38 (ix2 0 j) = val_main_v42 (F := Ideal) x0 x1 x2 x3 x4 x5 (ix1 (col q hq j)) := by
  have hs := spikes_eq x0 x1 x2 x3 x4 x5 q hq v37 v38 h37 h38
  unfold k0_pay7 val_main_v42 val_main_v40
  generalize val_main_v25 (F := Ideal) x0 x1 x2 x3 x4 x5 = s at *
  generalize k0_pay4 v37 v38 = s' at *
  have hs' := fun b => hs b j
  generalize col q hq j = l at *
  pointwise [val_main_v41, val_main_cst_7, val_main_cst_8]
  simp only [hs']

/-- The homeostatic bias, moved towards the target rate. -/
theorem homeo_eq (v23 : Vec Ideal S1x512 .f32) (h23 : ∀ j : Fin 512, v23 (ix2 0 j) = x5 (ix1 (col q hq j))) (j : Fin 512) :
    k0_pay8 v23 v37 v38 (ix2 0 j) = val_main_v47 (F := Ideal) x0 x1 x2 x3 x4 x5 (ix1 (col q hq j)) := by
  have ha := act_eq x0 x1 x2 x3 x4 x5 q hq v37 v38 h37 h38 j
  specialize h23 j
  unfold k0_pay8 val_main_v47 val_main_v46 val_main_v44
  generalize val_main_v42 (F := Ideal) x0 x1 x2 x3 x4 x5 = a at *
  generalize k0_pay7 v37 v38 = a' at *
  generalize col q hq j = l at *
  pointwise [val_main_v45, val_main_v43, val_main_cst_9, val_main_cst_10]
  rw [h23, ha]

end Spikes

end Point

end Cert.Proof.Columns

end
-- ==== Proof.Stores.lean ====
/-
  What the kernel body stores at one grid point, as functions of the blocks it loads.

  Every one of the six result blocks is stored once, whole. So each staging buffer ends at the stored value, a function of
  the six input blocks; the body's two partial loads (the diagonal square of the weight block, and the grid point's own
  part of the activity row) are read through their rectangles.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Stores

open Idealize.ShloMosaic Idealize.ShloMosaic.TcCoe Idealize.SL.Sem
open Cert.KernelIdeal Cert.KernelIdeal.Gen

variable {F : FTy → Type} [FloatOps F]

/-- A rectangle written with two literal zero offsets starts at the origin. -/
theorem hz : (![0, 0] : Fin 2 → Nat) = fun _ => 0 := funext fun a => by fin_cases a <;> rfl

/-- The diagonal square of a weight block: the 512 rows the body loads at the grid point's own offset. -/
def square (i : grid0.Coords) (x3 : Vec F S8192x512 .f32) : Vec F S512x512 .f32 :=
  View.ld (Val := Elt F) (e' := .f32) x3 (Rect.unit (s := S8192x512) (k0_off1 i) S512x512.size (k0_off1_inb i))

/-- The grid point's own 512 entries of the activity row. -/
def own (i : grid0.Coords) (x4 : Vec F S1x8192 .f32) : Vec F S1x512 .f32 :=
  View.ld (Val := Elt F) (e' := .f32) x4 (Rect.unit (s := S1x8192) (k0_off2 i) S1x512.size (k0_off2_inb i))

/-- The total input the body computes from its blocks. -/
def total (i : grid0.Coords) (x0 : Vec F S32x512 .f32) (x3 : Vec F S8192x512 .f32) (x4 : Vec F S1x8192 .f32)
    (x5 : Vec F S1x512 .f32) : Vec F S32x512 .f32 :=
  k0_pay2 x4 x3 (square i x3) (own i x4) x5 x0

/-- The membrane potential before the reset. -/
def vnew (i : grid0.Coords) (x0 x1 : Vec F S32x512 .f32) (x3 : Vec F S8192x512 .f32) (x4 : Vec F S1x8192 .f32)
    (x5 : Vec F S1x512 .f32) : Vec F S32x512 .f32 :=
  k0_pay3 x4 x3 (square i x3) (own i x4) x5 x0 x1

section Run

variable (c : Dev nD) (i : grid0.Coords)
  (arg1 : Memref sig .tc .vmem S32x512 .f32) (harg1 : arg1.IsWhole) (arg2 : Memref sig .tc .vmem S32x512 .f32) (harg2 : arg2.IsWhole)
  (arg3 : Memref sig .tc .vmem S32x512 .f32) (harg3 : arg3.IsWhole) (arg4 : Memref sig .tc .vmem S8192x512 .f32) (harg4 : arg4.IsWhole)
  (arg5 : Memref sig .tc .vmem S1x8192 .f32) (harg5 : arg5.IsWhole) (arg6 : Memref sig .tc .vmem S1x512 .f32) (harg6 : arg6.IsWhole)
  (arg7 : Memref sig .tc .vmem S32x512 .f32) (harg7 : arg7.IsWhole) (arg8 : Memref sig .tc .vmem S32x512 .f32) (harg8 : arg8.IsWhole)
  (arg9 : Memref sig .tc .vmem S32x512 .f32) (harg9 : arg9.IsWhole) (arg10 : Memref sig .tc .vmem S32x512 .f32) (harg10 : arg10.IsWhole)
  (arg11 : Memref sig .tc .vmem S1x512 .f32) (harg11 : arg11.IsWhole) (arg12 : Memref sig .tc .vmem S1x512 .f32) (harg12 : arg12.IsWhole)
  (x0 x1 x2 : Vec F S32x512 .f32) (x3 : Vec F S8192x512 .f32) (x4 : Vec F S1x8192 .f32) (x5 : Vec F S1x512 .f32)

/-- The spikes' buffer. -/
theorem out6 : out0_A_6 c i arg1 harg1 arg2 harg2 arg3 harg3 arg4 harg4 arg5 harg5 arg6 harg6 arg7 harg7
    arg8 harg8 arg9 harg9 arg10 harg10 arg11 harg11 arg12 harg12 x0 x1 x2 x3 x4 x5 = k0_pay4 (vnew i x0 x1 x3 x4 x5) x2 := by
  unfold out0_A_6
  rw [View.read_writes_eq_canon _ _ _ (cover0_A_6 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

/-- The new potential's buffer. -/
theorem out7 : out0_A_7 c i arg1 harg1 arg2 harg2 arg3 harg3 arg4 harg4 arg5 harg5 arg6 harg6 arg7 harg7
    arg8 harg8 arg9 harg9 arg10 harg10 arg11 harg11 arg12 harg12 x0 x1 x2 x3 x4 x5 = k0_pay5 (vnew i x0 x1 x3 x4 x5) x2 := by
  unfold out0_A_7
  rw [View.read_writes_eq_canon _ _ _ (cover0_A_7 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

/-- The new threshold's buffer. -/
theorem out8 : out0_A_8 c i arg1 harg1 arg2 harg2 arg3 harg3 arg4 harg4 arg5 harg5 arg6 harg6 arg7 harg7
    arg8 harg8 arg9 harg9 arg10 harg10 arg11 harg11 arg12 harg12 x0 x1 x2 x3 x4 x5 = k0_pay6 (vnew i x0 x1 x3 x4 x5) x2 := by
  unfold out0_A_8
  rw [View.read_writes_eq_canon _ _ _ (cover0_A_8 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

/-- The total input's buffer. -/
theorem out9 : out0_A_9 c i arg1 harg1 arg2 harg2 arg3 harg3 arg4 harg4 arg5 harg5 arg6 harg6 arg7 harg7
    arg8 harg8 arg9 harg9 arg10 harg10 arg11 harg11 arg12 harg12 x0 x1 x2 x3 x4 x5 = total i x0 x3 x4 x5 := by
  unfold out0_A_9
  rw [View.read_writes_eq_canon _ _ _ (cover0_A_9 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

/-- The new activity's buffer. -/
theorem out10 : out0_A_10 c i arg1 harg1 arg2 harg2 arg3 harg3 arg4 harg4 arg5 harg5 arg6 harg6 arg7 harg7
    arg8 harg8 arg9 harg9 arg10 harg10 arg11 harg11 arg12 harg12 x0 x1 x2 x3 x4 x5 = k0_pay7 (vnew i x0 x1 x3 x4 x5) x2 := by
  unfold out0_A_10
  rw [View.read_writes_eq_canon _ _ _ (cover0_A_10 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

/-- The homeostatic current's buffer. -/
theorem out11 : out0_A_11 c i arg1 harg1 arg2 harg2 arg3 harg3 arg4 harg4 arg5 harg5 arg6 harg6 arg7 harg7
    arg8 harg8 arg9 harg9 arg10 harg10 arg11 harg11 arg12 harg12 x0 x1 x2 x3 x4 x5 = k0_pay8 (k0_pay1 x5) (vnew i x0 x1 x3 x4 x5) x2 := by
  unfold out0_A_11
  rw [View.read_writes_eq_canon _ _ _ (cover0_A_11 c i arg1 harg1 arg2 harg2 arg3 harg3 arg4 harg4 arg5 harg5 arg6 harg6 arg7 harg7
    arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S32x512) hz, View.ld_unit_zero (S := S8192x512) hz,
    View.ld_unit_zero (S := S1x8192) hz, View.ld_unit_zero (S := S1x512) hz]
  rfl

end Run

end Cert.KernelIdeal.Stores

end
-- ==== Proof.Blocks.lean ====
/-
  The blocks of the six argument windows, read at an index of the argument arrays as launched.

  Grid point `q` sees columns `512 q … 512 q + 511`: of the input current, the potential, the threshold and the weights
  (all rows of the weights), of the activity row and the homeostatic row. The activity row is also seen whole. The two
  rows are the host's reshapes of one-axis arguments.
-/
module

public import proofs.«01_k».proof.Proof.Columns
public import proofs.«01_k».proof.Proof.Stores

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Stores
open Cert.Proof.Columns (col)

/-- A grid point is one of sixteen. -/
theorem lt16 (t : Fin cfg0.N) : t.val < 16 := lt_of_lt_of_eq t.isLt Gen.N_0

/-- Window 0's block is the grid point's, counted along the second axis. -/
theorem idx0 : ∀ t : Fin cfg0.N, win0_0.index t 0 = 0 ∧ win0_0.index t 1 = t.val := (by decide +kernel : ∀ t : Fin grid0.N, _)
/-- Window 1's block is the grid point's, counted along the second axis. -/
theorem idx1 : ∀ t : Fin cfg0.N, win0_1.index t 0 = 0 ∧ win0_1.index t 1 = t.val := (by decide +kernel : ∀ t : Fin grid0.N, _)
/-- Window 2's block is the grid point's, counted along the second axis. -/
theorem idx2 : ∀ t : Fin cfg0.N, win0_2.index t 0 = 0 ∧ win0_2.index t 1 = t.val := (by decide +kernel : ∀ t : Fin grid0.N, _)
/-- Window 3's block is the grid point's, counted along the second axis. -/
theorem idx3 : ∀ t : Fin cfg0.N, win0_3.index t 0 = 0 ∧ win0_3.index t 1 = t.val := (by decide +kernel : ∀ t : Fin grid0.N, _)
/-- Window 4 is the whole activity row: one block. -/
theorem idx4 : ∀ t : Fin cfg0.N, win0_4.index t 0 = 0 ∧ win0_4.index t 1 = 0 := (by decide +kernel : ∀ t : Fin grid0.N, _)
/-- Window 5's block is the grid point's, counted along the second axis. -/
theorem idx5 : ∀ t : Fin cfg0.N, win0_5.index t 0 = 0 ∧ win0_5.index t 1 = t.val := (by decide +kernel : ∀ t : Fin grid0.N, _)
/-- Window 6's block is the grid point's, counted along the second axis. -/
theorem idx6 : ∀ t : Fin cfg0.N, win0_6.index t 0 = 0 ∧ win0_6.index t 1 = t.val := (by decide +kernel : ∀ t : Fin grid0.N, _)
/-- Window 7's block is the grid point's, counted along the second axis. -/
theorem idx7 : ∀ t : Fin cfg0.N, win0_7.index t 0 = 0 ∧ win0_7.index t 1 = t.val := (by decide +kernel : ∀ t : Fin grid0.N, _)
/-- Window 8's block is the grid point's, counted along the second axis. -/
theorem idx8 : ∀ t : Fin cfg0.N, win0_8.index t 0 = 0 ∧ win0_8.index t 1 = t.val := (by decide +kernel : ∀ t : Fin grid0.N, _)
/-- Window 9's block is the grid point's, counted along the second axis. -/
theorem idx9 : ∀ t : Fin cfg0.N, win0_9.index t 0 = 0 ∧ win0_9.index t 1 = t.val := (by decide +kernel : ∀ t : Fin grid0.N, _)
/-- Window 10's block is the grid point's, counted along the second axis. -/
theorem idx10 : ∀ t : Fin cfg0.N, win0_10.index t 0 = 0 ∧ win0_10.index t 1 = t.val := (by decide +kernel : ∀ t : Fin grid0.N, _)
/-- Window 11's block is the grid point's, counted along the second axis. -/
theorem idx11 : ∀ t : Fin cfg0.N, win0_11.index t 0 = 0 ∧ win0_11.index t 1 = t.val := (by decide +kernel : ∀ t : Fin grid0.N, _)

/-- The body's offset into the weight block: 512 rows per grid point. -/
theorem off1 : ∀ t : Fin cfg0.N, k0_off1 (grid0.coords t) 0 = 512 * t.val ∧ k0_off1 (grid0.coords t) 1 = 0 :=
  (by decide +kernel : ∀ t : Fin grid0.N, _)

/-- The body's offset into the activity row: 512 entries per grid point. -/
theorem off2 : ∀ t : Fin cfg0.N, k0_off2 (grid0.coords t) 0 = 0 ∧ k0_off2 (grid0.coords t) 1 = 512 * t.val :=
  (by decide +kernel : ∀ t : Fin grid0.N, _)

variable (m : (ℓ : Loc nD τ sig) → Buf (Elt Ideal) ℓ) (c : Dev nD) (t : Fin cfg0.N)

/-- The activity as a row, as the region finds it. -/
theorem V_row4 (k : Fin 8192) : V m c main_v0 (ix2 0 k) = m ((c : Thread nD τ).loc main_arg4) (ix1 k) := by
  have e : V m c main_v0 = fun i => shapeCast S1x8192 (m ((c : Thread nD τ).loc main_arg4) : Vec Ideal S8192 .f32) shapeCasts_S8192_S1x8192 i := by
    unfold V V0
    simp only [hostOps0, List.flatten_cons, List.flatten_nil, List.append_nil]
    after_results
    rfl
  rw [e]
  exact (shapeCast_addUnit_apply ![8192] _ _ (ix2 0 k)).trans (congrArg _ (funext fun a => by match a with | ⟨0, _⟩ => rfl))

/-- The homeostatic current as a row, as the region finds it. -/
theorem V_row5 (k : Fin 8192) : V m c main_v1 (ix2 0 k) = m ((c : Thread nD τ).loc main_arg5) (ix1 k) := by
  have e : V m c main_v1 = fun i => shapeCast S1x8192 (m ((c : Thread nD τ).loc main_arg5) : Vec Ideal S8192 .f32) shapeCasts_S8192_S1x8192 i := by
    unfold V V0
    simp only [hostOps0, List.flatten_cons, List.flatten_nil, List.append_nil]
    after_results
    rfl
  rw [e]
  exact (shapeCast_addUnit_apply ![8192] _ _ (ix2 0 k)).trans (congrArg _ (funext fun a => by match a with | ⟨0, _⟩ => rfl))

/-- The input current's block. -/
theorem iblk0_at (b : Fin 32) (j : Fin 512) : (iblk m c 0 t : Vec Ideal S32x512 .f32) (ix2 b j)
    = m ((c : Thread nD τ).loc main_arg0) (ix2 b (col t.val (lt16 t) j)) := by
  obtain ⟨e0, e1⟩ := idx0 t
  unfold iblk
  rw [View.read_apply]
  show V m c main_arg0 _ = _
  rw [V_main_arg0]
  congr 1
  funext a; apply Fin.ext
  match a with
  | ⟨0, _⟩ => show win0_0.index t 0 * 32 + 1 * b.val = b.val; rw [e0]; omega
  | ⟨1, _⟩ => show win0_0.index t 1 * 512 + 1 * j.val = 512 * t.val + j.val; rw [e1]; omega

/-- The potential's block. -/
theorem iblk1_at (b : Fin 32) (j : Fin 512) : (iblk m c 1 t : Vec Ideal S32x512 .f32) (ix2 b j)
    = m ((c : Thread nD τ).loc main_arg1) (ix2 b (col t.val (lt16 t) j)) := by
  obtain ⟨e0, e1⟩ := idx1 t
  unfold iblk
  rw [View.read_apply]
  show V m c main_arg1 _ = _
  rw [V_main_arg1]
  congr 1
  funext a; apply Fin.ext
  match a with
  | ⟨0, _⟩ => show win0_1.index t 0 * 32 + 1 * b.val = b.val; rw [e0]; omega
  | ⟨1, _⟩ => show win0_1.index t 1 * 512 + 1 * j.val = 512 * t.val + j.val; rw [e1]; omega

/-- The threshold's block. -/
theorem iblk2_at (b : Fin 32) (j : Fin 512) : (iblk m c 2 t : Vec Ideal S32x512 .f32) (ix2 b j)
    = m ((c : Thread nD τ).loc main_arg2) (ix2 b (col t.val (lt16 t) j)) := by
  obtain ⟨e0, e1⟩ := idx2 t
  unfold iblk
  rw [View.read_apply]
  show V m c main_arg2 _ = _
  rw [V_main_arg2]
  congr 1
  funext a; apply Fin.ext
  match a with
  | ⟨0, _⟩ => show win0_2.index t 0 * 32 + 1 * b.val = b.val; rw [e0]; omega
  | ⟨1, _⟩ => show win0_2.index t 1 * 512 + 1 * j.val = 512 * t.val + j.val; rw [e1]; omega

/-- The weights' block. -/
theorem iblk3_at (b : Fin 8192) (j : Fin 512) : (iblk m c 3 t : Vec Ideal S8192x512 .f32) (ix2 b j)
    = m ((c : Thread nD τ).loc main_arg3) (ix2 b (col t.val (lt16 t) j)) := by
  obtain ⟨e0, e1⟩ := idx3 t
  unfold iblk
  rw [View.read_apply]
  show V m c main_arg3 _ = _
  rw [V_main_arg3]
  congr 1
  funext a; apply Fin.ext
  match a with
  | ⟨0, _⟩ => show win0_3.index t 0 * 8192 + 1 * b.val = b.val; rw [e0]; omega
  | ⟨1, _⟩ => show win0_3.index t 1 * 512 + 1 * j.val = 512 * t.val + j.val; rw [e1]; omega

/-- The whole activity row. -/
theorem iblk4_at (k : Fin 8192) : (iblk m c 4 t : Vec Ideal S1x8192 .f32) (ix2 0 k)
    = m ((c : Thread nD τ).loc main_arg4) (ix1 k) := by
  obtain ⟨e0, e1⟩ := idx4 t
  unfold iblk
  rw [View.read_apply, ← V_row4 m c k]
  show V m c main_v0 _ = _
  congr 1
  funext a; apply Fin.ext
  match a with
  | ⟨0, _⟩ => show win0_4.index t 0 * 1 + 1 * 0 = 0; rw [e0]
  | ⟨1, _⟩ => show win0_4.index t 1 * 8192 + 1 * k.val = k.val; rw [e1]; omega

/-- The homeostatic current's block. -/
theorem iblk5_at (j : Fin 512) : (iblk m c 5 t : Vec Ideal S1x512 .f32) (ix2 0 j)
    = m ((c : Thread nD τ).loc main_arg5) (ix1 (col t.val (lt16 t) j)) := by
  obtain ⟨e0, e1⟩ := idx5 t
  unfold iblk
  rw [View.read_apply, ← V_row5 m c]
  show V m c main_v1 _ = _
  congr 1
  funext a; apply Fin.ext
  match a with
  | ⟨0, _⟩ => show win0_5.index t 0 * 1 + 1 * 0 = 0; rw [e0]
  | ⟨1, _⟩ => show win0_5.index t 1 * 512 + 1 * j.val = 512 * t.val + j.val; rw [e1]; omega

/-- The diagonal square holds the weights among the grid point's own columns. -/
theorem square_at (i j : Fin 512) : square (grid0.coords t) (iblk m c 3 t) (ix2 i j)
    = m ((c : Thread nD τ).loc main_arg3) (ix2 (col t.val (lt16 t) i) (col t.val (lt16 t) j)) := by
  obtain ⟨e0, e1⟩ := off1 t
  rw [← iblk3_at m c t]
  show (iblk m c 3 t : Vec Ideal S8192x512 .f32) _ = _
  congr 1
  funext a; apply Fin.ext
  match a with
  | ⟨0, _⟩ => show k0_off1 (grid0.coords t) 0 + 1 * i.val = 512 * t.val + i.val; rw [e0]; omega
  | ⟨1, _⟩ => show k0_off1 (grid0.coords t) 1 + 1 * j.val = j.val; rw [e1]; omega

/-- The own part of the activity row holds the grid point's columns. -/
theorem own_at (j : Fin 512) : own (grid0.coords t) (iblk m c 4 t) (ix2 0 j)
    = m ((c : Thread nD τ).loc main_arg4) (ix1 (col t.val (lt16 t) j)) := by
  obtain ⟨e0, e1⟩ := off2 t
  rw [← iblk4_at m c t]
  show (iblk m c 4 t : Vec Ideal S1x8192 .f32) _ = _
  congr 1
  funext a; apply Fin.ext
  match a with
  | ⟨0, _⟩ => show k0_off2 (grid0.coords t) 0 + 1 * 0 = 0; rw [e0]
  | ⟨1, _⟩ => show k0_off2 (grid0.coords t) 1 + 1 * j.val = 512 * t.val + j.val; rw [e1]; omega

end Cert.KernelIdeal.Blocks

end
-- ==== Proof.Results.lean ====
/-
  The six results of the kernel's run, as the reference's functions of the arguments.

  Each grid point writes back its own columns of each result array, holding the reference's values there (Columns); the
  sixteen points' blocks cover the arrays. The two one-axis results are the host's reshapes of rows.
-/
module

public import proofs.«01_k».proof.Proof.Blocks

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Stores Cert.KernelIdeal.Blocks
open Cert.ReferenceIdeal.Read
open Cert.Proof.Columns

variable (m : (ℓ : Loc nD τ sig) → Buf (Elt Ideal) ℓ) (ρ : Dev nD → PrngReg) (c : Dev nD)

/-- Argument 0 on device `c`, as launched; the others below likewise. -/
abbrev a0 : Vec Ideal S32x8192 .f32 := m ((c : Thread nD τ).loc main_arg0)
/-- Argument 1. -/
abbrev a1 : Vec Ideal S32x8192 .f32 := m ((c : Thread nD τ).loc main_arg1)
/-- Argument 2. -/
abbrev a2 : Vec Ideal S32x8192 .f32 := m ((c : Thread nD τ).loc main_arg2)
/-- Argument 3. -/
abbrev a3 : Vec Ideal S8192x8192 .f32 := m ((c : Thread nD τ).loc main_arg3)
/-- Argument 4. -/
abbrev a4 : Vec Ideal S8192 .f32 := m ((c : Thread nD τ).loc main_arg4)
/-- Argument 5. -/
abbrev a5 : Vec Ideal S8192 .f32 := m ((c : Thread nD τ).loc main_arg5)

/-- The products on the diagonal are finite: what the kernel adds to a column's sum and takes out again. -/
def Finite : Prop := ∀ j : Fin 8192, a4 m c (ix1 j) * a3 m c (ix2 j j) ≠ ⊤ ∧ a4 m c (ix1 j) * a3 m c (ix2 j j) ≠ ⊥

/-- A row holding a one-axis array. -/
def row (v : Vec Ideal S8192 .f32) : Vec Ideal S1x8192 .f32 := fun i => v (ix1 (i 1))

/-- What a point writes back of result 1 is its block of `Y`, where its block agrees with `Y`'s columns. -/
theorem cut6 (t : Fin cfg0.N) (X : Vec Ideal S32x512 .f32) (Y : Vec Ideal S32x8192 .f32)
    (h : ∀ (b : Fin 32) (j : Fin 512), X (ix2 b j) = Y (ix2 b (col t.val (lt16 t) j))) :
    (cfg0.win 6).cut (grid0.coords t) X = ((cfg0.win 6).blk t).view.read (Elt Ideal) Y := by
  obtain ⟨e0, e1⟩ := idx6 t
  funext i
  rw [View.read_apply]
  show (X : Vec Ideal S32x512 .f32) i = Y _
  have hi : (i : S32x512.Idx) = ix2 (i 0) (i 1) := funext fun a => by match a with | ⟨0, _⟩ => rfl | ⟨1, _⟩ => rfl
  refine (congrArg X hi).trans ((h (i 0) (i 1)).trans (congrArg Y ?_))
  funext a; apply Fin.ext
  match a with
  | ⟨0, _⟩ => show (i 0).val = win0_6.index t 0 * 32 + 1 * (i 0).val; rw [e0]; omega
  | ⟨1, _⟩ => show 512 * t.val + (i 1).val = win0_6.index t 1 * 512 + 1 * (i 1).val; rw [e1]; omega

/-- Every index of result 1's array is in some point's block. -/
theorem cover6 (i : S32x8192.Idx) : ∃ t : Fin cfg0.N, (cfg0.win 6).flush t = true ∧ i ∈ ((cfg0.win 6).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 6).blk t).view.emb
      (ix2 (i 0) (⟨(i 1).val % 512, Nat.mod_lt _ (by decide)⟩ : Fin 512) : S32x512.Idx) = i := by
    obtain ⟨e0, e1⟩ := idx6 t
    funext a; apply Fin.ext
    match a with
    | ⟨0, _⟩ => show win0_6.index t 0 * 32 + 1 * (i 0).val = (i 0).val; rw [e0]; omega
    | ⟨1, _⟩ => show win0_6.index t 1 * 512 + 1 * ((i 1).val % 512) = (i 1).val; rw [e1, ht]; omega
  refine ⟨t, flush0_6 t, ?_⟩
  have h := ((cfg0.win 6).blk t).view.emb_mem_set
    (ix2 (i 0) (⟨(i 1).val % 512, Nat.mod_lt _ (by decide)⟩ : Fin 512) : S32x512.Idx)
  rwa [hi] at h

/-- What a point writes back of result 2 is its block of `Y`, where its block agrees with `Y`'s columns. -/
theorem cut7 (t : Fin cfg0.N) (X : Vec Ideal S32x512 .f32) (Y : Vec Ideal S32x8192 .f32)
    (h : ∀ (b : Fin 32) (j : Fin 512), X (ix2 b j) = Y (ix2 b (col t.val (lt16 t) j))) :
    (cfg0.win 7).cut (grid0.coords t) X = ((cfg0.win 7).blk t).view.read (Elt Ideal) Y := by
  obtain ⟨e0, e1⟩ := idx7 t
  funext i
  rw [View.read_apply]
  show (X : Vec Ideal S32x512 .f32) i = Y _
  have hi : (i : S32x512.Idx) = ix2 (i 0) (i 1) := funext fun a => by match a with | ⟨0, _⟩ => rfl | ⟨1, _⟩ => rfl
  refine (congrArg X hi).trans ((h (i 0) (i 1)).trans (congrArg Y ?_))
  funext a; apply Fin.ext
  match a with
  | ⟨0, _⟩ => show (i 0).val = win0_7.index t 0 * 32 + 1 * (i 0).val; rw [e0]; omega
  | ⟨1, _⟩ => show 512 * t.val + (i 1).val = win0_7.index t 1 * 512 + 1 * (i 1).val; rw [e1]; omega

/-- Every index of result 2's array is in some point's block. -/
theorem cover7 (i : S32x8192.Idx) : ∃ t : Fin cfg0.N, (cfg0.win 7).flush t = true ∧ i ∈ ((cfg0.win 7).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 7).blk t).view.emb
      (ix2 (i 0) (⟨(i 1).val % 512, Nat.mod_lt _ (by decide)⟩ : Fin 512) : S32x512.Idx) = i := by
    obtain ⟨e0, e1⟩ := idx7 t
    funext a; apply Fin.ext
    match a with
    | ⟨0, _⟩ => show win0_7.index t 0 * 32 + 1 * (i 0).val = (i 0).val; rw [e0]; omega
    | ⟨1, _⟩ => show win0_7.index t 1 * 512 + 1 * ((i 1).val % 512) = (i 1).val; rw [e1, ht]; omega
  refine ⟨t, flush0_7 t, ?_⟩
  have h := ((cfg0.win 7).blk t).view.emb_mem_set
    (ix2 (i 0) (⟨(i 1).val % 512, Nat.mod_lt _ (by decide)⟩ : Fin 512) : S32x512.Idx)
  rwa [hi] at h

/-- What a point writes back of result 3 is its block of `Y`, where its block agrees with `Y`'s columns. -/
theorem cut8 (t : Fin cfg0.N) (X : Vec Ideal S32x512 .f32) (Y : Vec Ideal S32x8192 .f32)
    (h : ∀ (b : Fin 32) (j : Fin 512), X (ix2 b j) = Y (ix2 b (col t.val (lt16 t) j))) :
    (cfg0.win 8).cut (grid0.coords t) X = ((cfg0.win 8).blk t).view.read (Elt Ideal) Y := by
  obtain ⟨e0, e1⟩ := idx8 t
  funext i
  rw [View.read_apply]
  show (X : Vec Ideal S32x512 .f32) i = Y _
  have hi : (i : S32x512.Idx) = ix2 (i 0) (i 1) := funext fun a => by match a with | ⟨0, _⟩ => rfl | ⟨1, _⟩ => rfl
  refine (congrArg X hi).trans ((h (i 0) (i 1)).trans (congrArg Y ?_))
  funext a; apply Fin.ext
  match a with
  | ⟨0, _⟩ => show (i 0).val = win0_8.index t 0 * 32 + 1 * (i 0).val; rw [e0]; omega
  | ⟨1, _⟩ => show 512 * t.val + (i 1).val = win0_8.index t 1 * 512 + 1 * (i 1).val; rw [e1]; omega

/-- Every index of result 3's array is in some point's block. -/
theorem cover8 (i : S32x8192.Idx) : ∃ t : Fin cfg0.N, (cfg0.win 8).flush t = true ∧ i ∈ ((cfg0.win 8).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 8).blk t).view.emb
      (ix2 (i 0) (⟨(i 1).val % 512, Nat.mod_lt _ (by decide)⟩ : Fin 512) : S32x512.Idx) = i := by
    obtain ⟨e0, e1⟩ := idx8 t
    funext a; apply Fin.ext
    match a with
    | ⟨0, _⟩ => show win0_8.index t 0 * 32 + 1 * (i 0).val = (i 0).val; rw [e0]; omega
    | ⟨1, _⟩ => show win0_8.index t 1 * 512 + 1 * ((i 1).val % 512) = (i 1).val; rw [e1, ht]; omega
  refine ⟨t, flush0_8 t, ?_⟩
  have h := ((cfg0.win 8).blk t).view.emb_mem_set
    (ix2 (i 0) (⟨(i 1).val % 512, Nat.mod_lt _ (by decide)⟩ : Fin 512) : S32x512.Idx)
  rwa [hi] at h

/-- What a point writes back of result 4 is its block of `Y`, where its block agrees with `Y`'s columns. -/
theorem cut9 (t : Fin cfg0.N) (X : Vec Ideal S32x512 .f32) (Y : Vec Ideal S32x8192 .f32)
    (h : ∀ (b : Fin 32) (j : Fin 512), X (ix2 b j) = Y (ix2 b (col t.val (lt16 t) j))) :
    (cfg0.win 9).cut (grid0.coords t) X = ((cfg0.win 9).blk t).view.read (Elt Ideal) Y := by
  obtain ⟨e0, e1⟩ := idx9 t
  funext i
  rw [View.read_apply]
  show (X : Vec Ideal S32x512 .f32) i = Y _
  have hi : (i : S32x512.Idx) = ix2 (i 0) (i 1) := funext fun a => by match a with | ⟨0, _⟩ => rfl | ⟨1, _⟩ => rfl
  refine (congrArg X hi).trans ((h (i 0) (i 1)).trans (congrArg Y ?_))
  funext a; apply Fin.ext
  match a with
  | ⟨0, _⟩ => show (i 0).val = win0_9.index t 0 * 32 + 1 * (i 0).val; rw [e0]; omega
  | ⟨1, _⟩ => show 512 * t.val + (i 1).val = win0_9.index t 1 * 512 + 1 * (i 1).val; rw [e1]; omega

/-- Every index of result 4's array is in some point's block. -/
theorem cover9 (i : S32x8192.Idx) : ∃ t : Fin cfg0.N, (cfg0.win 9).flush t = true ∧ i ∈ ((cfg0.win 9).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 9).blk t).view.emb
      (ix2 (i 0) (⟨(i 1).val % 512, Nat.mod_lt _ (by decide)⟩ : Fin 512) : S32x512.Idx) = i := by
    obtain ⟨e0, e1⟩ := idx9 t
    funext a; apply Fin.ext
    match a with
    | ⟨0, _⟩ => show win0_9.index t 0 * 32 + 1 * (i 0).val = (i 0).val; rw [e0]; omega
    | ⟨1, _⟩ => show win0_9.index t 1 * 512 + 1 * ((i 1).val % 512) = (i 1).val; rw [e1, ht]; omega
  refine ⟨t, flush0_9 t, ?_⟩
  have h := ((cfg0.win 9).blk t).view.emb_mem_set
    (ix2 (i 0) (⟨(i 1).val % 512, Nat.mod_lt _ (by decide)⟩ : Fin 512) : S32x512.Idx)
  rwa [hi] at h

/-- What a point writes back of result 5 is its block of `Y`, where its block agrees with `Y`'s columns. -/
theorem cut10 (t : Fin cfg0.N) (X : Vec Ideal S1x512 .f32) (Y : Vec Ideal S1x8192 .f32)
    (h : ∀ j : Fin 512, X (ix2 0 j) = Y (ix2 0 (col t.val (lt16 t) j))) :
    (cfg0.win 10).cut (grid0.coords t) X = ((cfg0.win 10).blk t).view.read (Elt Ideal) Y := by
  obtain ⟨e0, e1⟩ := idx10 t
  funext i
  rw [View.read_apply]
  show (X : Vec Ideal S1x512 .f32) i = Y _
  have h0 : (i 0).val = 0 := Nat.lt_one_iff.mp (i 0).isLt
  have hi : (i : S1x512.Idx) = ix2 0 (i 1) := funext fun a => by
    match a with
    | ⟨0, _⟩ => exact Fin.ext h0
    | ⟨1, _⟩ => rfl
  refine (congrArg X hi).trans ((h (i 1)).trans (congrArg Y ?_))
  funext a; apply Fin.ext
  match a with
  | ⟨0, _⟩ => show 0 = win0_10.index t 0 * 1 + 1 * (i 0).val; rw [e0, h0]
  | ⟨1, _⟩ => show 512 * t.val + (i 1).val = win0_10.index t 1 * 512 + 1 * (i 1).val; rw [e1]; omega

/-- Every index of result 5's array is in some point's block. -/
theorem cover10 (i : S1x8192.Idx) : ∃ t : Fin cfg0.N, (cfg0.win 10).flush t = true ∧ i ∈ ((cfg0.win 10).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 10).blk t).view.emb
      (ix2 (i 0) (⟨(i 1).val % 512, Nat.mod_lt _ (by decide)⟩ : Fin 512) : S1x512.Idx) = i := by
    obtain ⟨e0, e1⟩ := idx10 t
    funext a; apply Fin.ext
    match a with
    | ⟨0, _⟩ => show win0_10.index t 0 * 1 + 1 * (i 0).val = (i 0).val; rw [e0]; omega
    | ⟨1, _⟩ => show win0_10.index t 1 * 512 + 1 * ((i 1).val % 512) = (i 1).val; rw [e1, ht]; omega
  refine ⟨t, flush0_10 t, ?_⟩
  have h := ((cfg0.win 10).blk t).view.emb_mem_set
    (ix2 (i 0) (⟨(i 1).val % 512, Nat.mod_lt _ (by decide)⟩ : Fin 512) : S1x512.Idx)
  rwa [hi] at h

/-- What a point writes back of result 6 is its block of `Y`, where its block agrees with `Y`'s columns. -/
theorem cut11 (t : Fin cfg0.N) (X : Vec Ideal S1x512 .f32) (Y : Vec Ideal S1x8192 .f32)
    (h : ∀ j : Fin 512, X (ix2 0 j) = Y (ix2 0 (col t.val (lt16 t) j))) :
    (cfg0.win 11).cut (grid0.coords t) X = ((cfg0.win 11).blk t).view.read (Elt Ideal) Y := by
  obtain ⟨e0, e1⟩ := idx11 t
  funext i
  rw [View.read_apply]
  show (X : Vec Ideal S1x512 .f32) i = Y _
  have h0 : (i 0).val = 0 := Nat.lt_one_iff.mp (i 0).isLt
  have hi : (i : S1x512.Idx) = ix2 0 (i 1) := funext fun a => by
    match a with
    | ⟨0, _⟩ => exact Fin.ext h0
    | ⟨1, _⟩ => rfl
  refine (congrArg X hi).trans ((h (i 1)).trans (congrArg Y ?_))
  funext a; apply Fin.ext
  match a with
  | ⟨0, _⟩ => show 0 = win0_11.index t 0 * 1 + 1 * (i 0).val; rw [e0, h0]
  | ⟨1, _⟩ => show 512 * t.val + (i 1).val = win0_11.index t 1 * 512 + 1 * (i 1).val; rw [e1]; omega

/-- Every index of result 6's array is in some point's block. -/
theorem cover11 (i : S1x8192.Idx) : ∃ t : Fin cfg0.N, (cfg0.win 11).flush t = true ∧ i ∈ ((cfg0.win 11).blk t).view.set := by
  have h1 : (i 1).val < 8192 := (i 1).isLt
  let t : Fin cfg0.N := ⟨(i 1).val / 512, lt_of_lt_of_eq (by omega) Gen.N_0.symm⟩
  have ht : t.val = (i 1).val / 512 := rfl
  have hi : ((cfg0.win 11).blk t).view.emb
      (ix2 (i 0) (⟨(i 1).val % 512, Nat.mod_lt _ (by decide)⟩ : Fin 512) : S1x512.Idx) = i := by
    obtain ⟨e0, e1⟩ := idx11 t
    funext a; apply Fin.ext
    match a with
    | ⟨0, _⟩ => show win0_11.index t 0 * 1 + 1 * (i 0).val = (i 0).val; rw [e0]; omega
    | ⟨1, _⟩ => show win0_11.index t 1 * 512 + 1 * ((i 1).val % 512) = (i 1).val; rw [e1, ht]; omega
  refine ⟨t, flush0_11 t, ?_⟩
  have h := ((cfg0.win 11).blk t).view.emb_mem_set
    (ix2 (i 0) (⟨(i 1).val % 512, Nat.mod_lt _ (by decide)⟩ : Fin 512) : S1x512.Idx)
  rwa [hi] at h

section Values

variable (hfin : Finite m c)
include hfin

/-- A point's total input is the reference's at its columns. -/
theorem total_at (t : Fin cfg0.N) (b : Fin 32) (j : Fin 512) :
    total (grid0.coords t) (iblk m c 0 t) (iblk m c 3 t) (iblk m c 4 t) (iblk m c 5 t) (ix2 b j)
      = val_main_v16 (F := Ideal) (a0 m c) (a3 m c) (a4 m c) (a5 m c) (ix2 b (col t.val (lt16 t) j)) :=
  total_eq (a0 m c) (a3 m c) (a4 m c) (a5 m c) t.val (lt16 t) hfin _ _ _ _ _ _ (iblk4_at m c t) (iblk3_at m c t)
    (square_at m c t) (own_at m c t) (iblk5_at m c t) (iblk0_at m c t) b j

/-- A point's potential before the reset is the reference's at its columns. -/
theorem vnew_at (t : Fin cfg0.N) (b : Fin 32) (j : Fin 512) :
    vnew (grid0.coords t) (iblk m c 0 t) (iblk m c 1 t) (iblk m c 3 t) (iblk m c 4 t) (iblk m c 5 t) (ix2 b j)
      = val_main_v23 (F := Ideal) (a0 m c) (a1 m c) (a3 m c) (a4 m c) (a5 m c) (ix2 b (col t.val (lt16 t) j)) :=
  vnew_eq (a0 m c) (a1 m c) (a3 m c) (a4 m c) (a5 m c) t.val (lt16 t) _ _ _ _ _ _ _ (total_at m c hfin t) (iblk1_at m c t) b j

/-- Result 1's array after the run. -/
theorem final6 : (dats m 0 c).arrAt 6 cfg0.N = val_main_v25 (F := Ideal) (a0 m c) (a1 m c) (a2 m c) (a3 m c) (a4 m c) (a5 m c) :=
  (dats m 0 c).arrAt_eq_of_cover 6 (val_main_v25 (F := Ideal) (a0 m c) (a1 m c) (a2 m c) (a3 m c) (a4 m c) (a5 m c)) (fun t _ => by
    show (cfg0.win 6).cut (grid0.coords t) ((dats m 0 c).after 6 t) = _
    rw [after0_6]
    unfold outsAt0
    dsimp only
    rw [out6]
    exact cut6 t _ _ (spikes_eq (a0 m c) (a1 m c) (a2 m c) (a3 m c) (a4 m c) (a5 m c) t.val (lt16 t) _ _ (vnew_at m c hfin t) (iblk2_at m c t))) cover6

/-- Result 2's array after the run. -/
theorem final7 : (dats m 0 c).arrAt 7 cfg0.N = val_main_v28 (F := Ideal) (a0 m c) (a1 m c) (a2 m c) (a3 m c) (a4 m c) (a5 m c) :=
  (dats m 0 c).arrAt_eq_of_cover 7 (val_main_v28 (F := Ideal) (a0 m c) (a1 m c) (a2 m c) (a3 m c) (a4 m c) (a5 m c)) (fun t _ => by
    show (cfg0.win 7).cut (grid0.coords t) ((dats m 0 c).after 7 t) = _
    rw [after0_7]
    unfold outsAt0
    dsimp only
    rw [out7]
    exact cut7 t _ _ (vout_eq (a0 m c) (a1 m c) (a2 m c) (a3 m c) (a4 m c) (a5 m c) t.val (lt16 t) _ _ (vnew_at m c hfin t) (iblk2_at m c t))) cover7

/-- Result 3's array after the run. -/
theorem final8 : (dats m 0 c).arrAt 8 cfg0.N = val_main_v39 (F := Ideal) (a0 m c) (a1 m c) (a2 m c) (a3 m c) (a4 m c) (a5 m c) :=
  (dats m 0 c).arrAt_eq_of_cover 8 (val_main_v39 (F := Ideal) (a0 m c) (a1 m c) (a2 m c) (a3 m c) (a4 m c) (a5 m c)) (fun t _ => by
    show (cfg0.win 8).cut (grid0.coords t) ((dats m 0 c).after 8 t) = _
    rw [after0_8]
    unfold outsAt0
    dsimp only
    rw [out8]
    exact cut8 t _ _ (thout_eq (a0 m c) (a1 m c) (a2 m c) (a3 m c) (a4 m c) (a5 m c) t.val (lt16 t) _ _ (vnew_at m c hfin t) (iblk2_at m c t))) cover8

/-- Result 4's array after the run. -/
theorem final9 : (dats m 0 c).arrAt 9 cfg0.N = val_main_v16 (F := Ideal) (a0 m c) (a3 m c) (a4 m c) (a5 m c) :=
  (dats m 0 c).arrAt_eq_of_cover 9 (val_main_v16 (F := Ideal) (a0 m c) (a3 m c) (a4 m c) (a5 m c)) (fun t _ => by
    show (cfg0.win 9).cut (grid0.coords t) ((dats m 0 c).after 9 t) = _
    rw [after0_9]
    unfold outsAt0
    dsimp only
    rw [out9]
    exact cut9 t _ _ (total_at m c hfin t)) cover9

/-- Result 5's array after the run. -/
theorem final10 : (dats m 0 c).arrAt 10 cfg0.N = row (val_main_v42 (F := Ideal) (a0 m c) (a1 m c) (a2 m c) (a3 m c) (a4 m c) (a5 m c)) :=
  (dats m 0 c).arrAt_eq_of_cover 10 (row (val_main_v42 (F := Ideal) (a0 m c) (a1 m c) (a2 m c) (a3 m c) (a4 m c) (a5 m c))) (fun t _ => by
    show (cfg0.win 10).cut (grid0.coords t) ((dats m 0 c).after 10 t) = _
    rw [after0_10]
    unfold outsAt0
    dsimp only
    rw [out10]
    exact cut10 t _ _ (act_eq (a0 m c) (a1 m c) (a2 m c) (a3 m c) (a4 m c) (a5 m c) t.val (lt16 t) _ _ (vnew_at m c hfin t) (iblk2_at m c t))) cover10

/-- Result 6's array after the run. -/
theorem final11 : (dats m 0 c).arrAt 11 cfg0.N = row (val_main_v47 (F := Ideal) (a0 m c) (a1 m c) (a2 m c) (a3 m c) (a4 m c) (a5 m c)) :=
  (dats m 0 c).arrAt_eq_of_cover 11 (row (val_main_v47 (F := Ideal) (a0 m c) (a1 m c) (a2 m c) (a3 m c) (a4 m c) (a5 m c))) (fun t _ => by
    show (cfg0.win 11).cut (grid0.coords t) ((dats m 0 c).after 11 t) = _
    rw [after0_11]
    unfold outsAt0
    dsimp only
    rw [out11]
    exact cut11 t _ _ (homeo_eq (a0 m c) (a1 m c) (a2 m c) (a3 m c) (a4 m c) (a5 m c) t.val (lt16 t) _ _ (vnew_at m c hfin t) (iblk2_at m c t) _ fun j => (congrFun (shapeCast_self _ _) _).trans (iblk5_at m c t j))) cover11

end Values

end Cert.KernelIdeal.Results

end
-- ==== Proof.Run.lean ====
/-
  The kernel's run with its six results, each a function of the arguments.
-/
module

public import proofs.«01_k».proof.Proof.Results

@[expose] public section

set_option maxRecDepth 16384

noncomputable section

namespace Cert.KernelIdeal.Results

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- A row read back as a one-axis array is the array. -/
theorem cast_row (v : Vec Ideal S8192 .f32) : (fun i => shapeCast S8192 (row v) shapeCasts_S1x8192_S8192 i) = v :=
  funext fun i => (shapeCast_dropUnit_apply ![8192] (row v) _ i).trans
    (congrArg v (funext fun a => by match a with | ⟨0, _⟩ => rfl))

/-- The windows' arrays are distinct. -/
theorem arr_inj : Function.Injective (Pipeline.arrRef spec0) :=
  (by decide : ∀ w w' : Fin 12, Pipeline.arrRef spec0 w = Pipeline.arrRef spec0 w' → w = w')

section Values

variable (hfin : Finite m c)
include hfin

/-- The new activity, after the host's reshape. -/
theorem tail_act : Pipeline.afterTail₀ cfgs (dats m) 0 (V0 m) [hostOps1] c main_v3
    = val_main_v42 (F := Ideal) (a0 m c) (a1 m c) (a2 m c) (a3 m c) (a4 m c) (a5 m c) := by
  have e : Pipeline.afterTail₀ cfgs (dats m) 0 (V0 m) [hostOps1] c main_v3
      = fun i => shapeCast S8192 ((dats m 0 c).arrAt 10 cfg0.N : Vec Ideal S1x8192 .f32) shapeCasts_S1x8192_S8192 i := by
    unfold Pipeline.afterTail₀
    simp only [hostOps1, List.flatten_cons, List.flatten_nil, List.append_nil]
    after_results
    erw [Pipeline.withArrays_arr spec0 arr_inj c (V0 m c) _ 10]
    rfl
  rw [e, final10 m c hfin]
  exact cast_row _

/-- The new homeostatic current, after the host's reshape. -/
theorem tail_homeo : Pipeline.afterTail₀ cfgs (dats m) 0 (V0 m) [hostOps1] c main_v4
    = val_main_v47 (F := Ideal) (a0 m c) (a1 m c) (a2 m c) (a3 m c) (a4 m c) (a5 m c) := by
  have e : Pipeline.afterTail₀ cfgs (dats m) 0 (V0 m) [hostOps1] c main_v4
      = fun i => shapeCast S8192 ((dats m 0 c).arrAt 11 cfg0.N : Vec Ideal S1x8192 .f32) shapeCasts_S1x8192_S8192 i := by
    unfold Pipeline.afterTail₀
    simp only [hostOps1, List.flatten_cons, List.flatten_nil, List.append_nil]
    after_results
    erw [Pipeline.withArrays_arr spec0 arr_inj c (V0 m c) _ 11]
    rfl
  rw [e, final11 m c hfin]
  exact cast_row _

end Values

/-- The kernel's run: six results and six unchanged arguments. -/
theorem run (hfin : ∀ c, Finite m c) :
    θ_run defs (onTc (τ := τ) (main (F := Ideal))) ⟨m, fun _ => 0, ρ⟩ fun r => ∀ c : Dev nD,
      r.2.mem ((c.tc : Thread nD τ).loc main_v2_0) = val_main_v25 (F := Ideal) (a0 m c) (a1 m c) (a2 m c) (a3 m c) (a4 m c) (a5 m c)
      ∧ r.2.mem ((c.tc : Thread nD τ).loc main_v2_1) = val_main_v28 (F := Ideal) (a0 m c) (a1 m c) (a2 m c) (a3 m c) (a4 m c) (a5 m c)
      ∧ r.2.mem ((c.tc : Thread nD τ).loc main_v2_2) = val_main_v39 (F := Ideal) (a0 m c) (a1 m c) (a2 m c) (a3 m c) (a4 m c) (a5 m c)
      ∧ r.2.mem ((c.tc : Thread nD τ).loc main_v2_3) = val_main_v16 (F := Ideal) (a0 m c) (a3 m c) (a4 m c) (a5 m c)
      ∧ r.2.mem ((c.tc : Thread nD τ).loc main_v3) = val_main_v42 (F := Ideal) (a0 m c) (a1 m c) (a2 m c) (a3 m c) (a4 m c) (a5 m c)
      ∧ r.2.mem ((c.tc : Thread nD τ).loc main_v4) = val_main_v47 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h.1 c).1 6).trans (final6 m c (hfin c)),
      ((h.1 c).1 7).trans (final7 m c (hfin c)),
      ((h.1 c).1 8).trans (final8 m c (hfin c)),
      ((h.1 c).1 9).trans (final9 m c (hfin c)),
      ((h.1 c).2 main_v3 (Pipeline.mem_restRefs_of main_v3 (by decide) (by decide))).trans (tail_act m c (hfin c)),
      ((h.1 c).2 main_v4 (Pipeline.mem_restRefs_of main_v4 (by decide) (by decide))).trans (tail_homeo m c (hfin c)),
      h.2 c⟩)
    (θ_run_and (run_main m ρ) (unchanged m ρ))

end Cert.KernelIdeal.Results

end
-- ==== Proof.Reference.lean ====
/-
  The reference's run, its results named by their stages.
-/
module

public import proofs.«01_k».proof.Proof.Gen.ReferenceIdeal.Run
public import proofs.«01_k».proof.Proof.Gen.ReferenceIdeal.Read

@[expose] public section

set_option maxRecDepth 16384

noncomputable section

namespace Cert.Proof.Reference

open Idealize.ShloMosaic Idealize.ShloMosaic.TcCoe Idealize.SL.Sem
open Cert.ReferenceIdeal Cert.ReferenceIdeal.Gen Cert.ReferenceIdeal.Read

/-- The reference's run, its results named by their stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v16) = val_main_v16 (F := Ideal) (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      (h c).1.trans (val_main_v25_eq _ _ _ _ _ _),
      (h c).2.1.trans (val_main_v28_eq _ _ _ _ _ _),
      (h c).2.2.1.trans (val_main_v39_eq _ _ _ _ _ _),
      (h c).2.2.2.1.trans (val_main_v16_eq _ _ _ _),
      (h c).2.2.2.2.1.trans (val_main_v42_eq _ _ _ _ _ _),
      (h c).2.2.2.2.2.1.trans (val_main_v47_eq _ _ _ _ _ _),
      (h c).2.2.2.2.2.2⟩)
    (Cert.ReferenceIdeal.Value.run (F := Ideal) m ρ)

end Cert.Proof.Reference

end
-- ==== Proof.Diagonal.lean ====
/-
  The precondition read: on the diagonal it says the product of activity and weight is finite.
-/
module

public import proofs.«01_k».proof.Pre_diagonal_products_finite
public import Idealize.ShloMosaic.Lib.Pointwise

@[expose] public section

set_option maxRecDepth 16384

noncomputable section

namespace Cert.Proof.Diagonal

open Idealize.ShloMosaic
open Cert.Pre_diagonal_products_finite

/-- The side conditions of the precondition's broadcasts. -/
theorem facts : Facts where
  bcast_S8192_S8192x1_0 := by decide
  bcast_S8192x1_S8192x8192_0_1 := by decide
  bcast_S_S8192x8192 := by decide

/-- The word of the positive infinity is the top. -/
theorem inf_word : (Ideal.ofBits .f32 0x7F800000#32 : EReal) = ⊤ := by simp [Ideal.ofBits, Ideal.ieee]

/-- Where the larger of a number and its negation is below the top, the number is finite. -/
theorem finite_of_abs {a : EReal} (h : max a (-a) < ⊤) : a ≠ ⊤ ∧ a ≠ ⊥ := by
  constructor
  · rintro rfl; simp at h
  · rintro rfl; simp at h

/-- The precondition at a diagonal place. -/
theorem finite_of_pre (x0 x1 x2 : Vec Ideal S32x8192 .f32) (x3 : Vec Ideal S8192x8192 .f32) (x4 x5 : Vec Ideal S8192 .f32)
    (h : letI := facts; fn (F := Ideal) x0 x1 x2 x3 x4 x5 = fun _ => 1#1) (j : Fin 8192) :
    x4 (ix1 j) * x3 (ix2 j j) ≠ ⊤ ∧ x4 (ix1 j) * x3 (ix2 j j) ≠ ⊥ := by
  letI := facts
  have e := congrFun h (ix2 j j)
  refine finite_of_abs ?_
  revert e
  pointwise [fn]
  rw [inf_word, Ideal.absf_def]
  generalize x4 (ix1 j) * x3 (ix2 j j) = a
  by_cases ha : max a (-a) < ⊤
  · exact fun _ => ha
  · intro e
    exfalso
    revert e
    simp [IntOp.cmpi, IntOp.ori, ha]

end Cert.Proof.Diagonal

end
-- ==== Proof.lean ====
/-
  The proof of the certificate's claim: each program runs and leaves its arguments unchanged, the idealized kernel is the
  printed one, and where the products on the diagonal are finite its six results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Reference
public import proofs.«01_k».proof.Proof.Diagonal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal.Results (a0 a1 a2 a3 a4 a5)

/-- The reference runs, leaves its arguments unchanged and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2.2, Idealize.ShloMosaic.sem_eq_zero_of_no_sems (by decide) r.2⟩)
    (Reference.run m ρ)

/-- Where the diagonal products are finite, the kernel's six results are the reference's. -/
theorem results : Cert.algebraic_KernelIdeal_ReferenceIdeal_pre_diagonal_products_finite
    (hKernelIdeal := Cert.KernelIdeal.Gen.facts) (hReferenceIdeal := Cert.ReferenceIdeal.Gen.facts)
    (hPre_diagonal_products_finite := Diagonal.facts) := by
  intro m g m' g' hpre hargs
  have hfin : ∀ c, Cert.KernelIdeal.Results.Finite m c := fun c => Diagonal.finite_of_pre _ _ _ _ _ _ (hpre c)
  refine ⟨fun c => Cert.ReferenceIdeal.Read.val_main_v25 (F := Ideal) (a0 m c) (a1 m c) (a2 m c) (a3 m c) (a4 m c) (a5 m c),
    fun c => Cert.ReferenceIdeal.Read.val_main_v28 (F := Ideal) (a0 m c) (a1 m c) (a2 m c) (a3 m c) (a4 m c) (a5 m c),
    fun c => Cert.ReferenceIdeal.Read.val_main_v39 (F := Ideal) (a0 m c) (a1 m c) (a2 m c) (a3 m c) (a4 m c) (a5 m c),
    fun c => Cert.ReferenceIdeal.Read.val_main_v16 (F := Ideal) (a0 m c) (a3 m c) (a4 m c) (a5 m c),
    fun c => Cert.ReferenceIdeal.Read.val_main_v42 (F := Ideal) (a0 m c) (a1 m c) (a2 m c) (a3 m c) (a4 m c) (a5 m c),
    fun c => Cert.ReferenceIdeal.Read.val_main_v47 (F := Ideal) (a0 m c) (a1 m c) (a2 m c) (a3 m c) (a4 m c) (a5 m c),
    Cert.KernelIdeal.Results.run m g hfin, ?_⟩
  refine (θ_run Cert.ReferenceIdeal.defs _ _).mono (fun r h c => ?_) (Reference.run m' g')
  obtain ⟨e0, e1, e2, e3, e4, e5⟩ := hargs c
  have h := h c
  refine ⟨h.1.trans ?_, h.2.1.trans ?_, h.2.2.1.trans ?_, h.2.2.2.1.trans ?_, h.2.2.2.2.1.trans ?_, h.2.2.2.2.2.1.trans ?_,
    h.2.2.2.2.2.2⟩
  · rw [e0, e1, e2, e3, e4, e5]
  · rw [e0, e1, e2, e3, e4, e5]
  · rw [e0, e1, e2, e3, e4, e5]
  · rw [e0, e3, e4, e5]
  · rw [e0, e1, e2, e3, e4, e5]
  · rw [e0, e1, e2, e3, e4, e5]

/-- Every claim of the certificate. -/
theorem claim : Cert.Claim :=
  ⟨Cert.Kernel.Gen.facts, Cert.KernelIdeal.Gen.facts, Cert.ReferenceIdeal.Gen.facts, Diagonal.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results⟩

end Cert.Proof

end
